-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)

variable [Facts]

def fn {F : FTy → Type} [FloatOps F] (main_arg0 : FVec F S32x3x512x512 .f32) : IVec S32x3x512x512 1 :=
  let main_cst : FVec F S_ .f32 := constant S_ .f32 0x7F800000#32
  let main_v0 : FVec F S32x3x512x512 .f32 := broadcastInDim S32x3x512x512 ![] bcast_S_S32x3x512x512 main_cst
  let main_v1 : IVec S32x3x512x512 1 := cmpf .olt main_arg0 main_v0
  let main_cst_0 : FVec F S_ .f32 := constant S_ .f32 0xFF800000#32
  let main_v2 : FVec F S32x3x512x512 .f32 := broadcastInDim S32x3x512x512 ![] bcast_S_S32x3x512x512 main_cst_0
  let main_v3 : IVec S32x3x512x512 1 := cmpf .ogt main_arg0 main_v2
  let main_v4 : IVec S32x3x512x512 1 := andi main_v1 main_v3
  main_v4
-- ==== Kernel.lean ====
abbrev S32x3x512x512 : Shape := ⟨4, ![32, 3, 512, 512]⟩
abbrev S32x160x3x16x16 : Shape := ⟨5, ![32, 160, 3, 16, 16]⟩
abbrev S1x1x512x512 : Shape := ⟨4, ![1, 1, 512, 512]⟩
abbrev S1x160x1x16x16 : Shape := ⟨5, ![1, 160, 1, 16, 16]⟩
abbrev S512x512 : Shape := ⟨2, ![512, 512]⟩
abbrev S256x2x512 : Shape := ⟨3, ![256, 2, 512]⟩
abbrev S256x512 : Shape := ⟨2, ![256, 512]⟩
abbrev S512x256 : Shape := ⟨2, ![512, 256]⟩
abbrev S256x256 : Shape := ⟨2, ![256, 256]⟩
abbrev S128x2x256 : Shape := ⟨3, ![128, 2, 256]⟩
abbrev S128x256 : Shape := ⟨2, ![128, 256]⟩
abbrev S256x128 : Shape := ⟨2, ![256, 128]⟩
abbrev S128x128 : Shape := ⟨2, ![128, 128]⟩
abbrev S128x16 : Shape := ⟨2, ![128, 16]⟩
abbrev S1x128x16 : Shape := ⟨3, ![1, 128, 16]⟩
abbrev S8x128x16 : Shape := ⟨3, ![8, 128, 16]⟩
abbrev S8x8x16x16 : Shape := ⟨4, ![8, 8, 16, 16]⟩
abbrev S64x16x16 : Shape := ⟨3, ![64, 16, 16]⟩
abbrev S2x16x16 : Shape := ⟨3, ![2, 16, 16]⟩
abbrev S16x16x16 : Shape := ⟨3, ![16, 16, 16]⟩
abbrev S48x16x16 : Shape := ⟨3, ![48, 16, 16]⟩
abbrev S160x16x16 : Shape := ⟨3, ![160, 16, 16]⟩

abbrev nBuf : Space → Nat
  | .hbm => 2
  | .vmem => 4
  | .smem => 0
  | _ => 0

abbrev bufTy : (tb : Table) → Fin (tcTables nBuf tb) → BufTy
  | .hbm, ⟨0, _⟩ => ⟨S32x3x512x512, .f32⟩
  | .hbm, ⟨1, _⟩ => ⟨S32x160x3x16x16, .f32⟩
  | .local _ .vmem, ⟨0, _⟩ => ⟨S1x1x512x512, .f32⟩
  | .local _ .vmem, ⟨1, _⟩ => ⟨S1x1x512x512, .f32⟩
  | .local _ .vmem, ⟨2, _⟩ => ⟨S1x160x1x16x16, .f32⟩
  | .local _ .vmem, ⟨3, _⟩ => ⟨S1x160x1x16x16, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 3], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x160x1x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S32x3x512x512 : Shape := ⟨4, ![32, 3, 512, 512]⟩
abbrev S160 : Shape := ⟨1, ![160]⟩
abbrev S160x2 : Shape := ⟨2, ![160, 2]⟩
abbrev S_ : Shape := ⟨0, ![]⟩
abbrev S32x3x513x513 : Shape := ⟨4, ![32, 3, 513, 513]⟩
abbrev S16x16 : Shape := ⟨2, ![16, 16]⟩
abbrev S16x16x1 : Shape := ⟨3, ![16, 16, 1]⟩
abbrev S16x16x2 : Shape := ⟨3, ![16, 16, 2]⟩
abbrev S1x16x16x2 : Shape := ⟨4, ![1, 16, 16, 2]⟩
abbrev S160x1x1x1 : Shape := ⟨4, ![160, 1, 1, 1]⟩
abbrev S160x1x1x2 : Shape := ⟨4, ![160, 1, 1, 2]⟩
abbrev S160x16x16x2 : Shape := ⟨4, ![160, 16, 16, 2]⟩
abbrev S32x3x263169 : Shape := ⟨3, ![32, 3, 263169]⟩
abbrev S160x16x16x1 : Shape := ⟨4, ![160, 16, 16, 1]⟩
abbrev S160x16x16 : Shape := ⟨3, ![160, 16, 16]⟩
abbrev S1x160x1x1x1 : Shape := ⟨5, ![1, 160, 1, 1, 1]⟩
abbrev S40960 : Shape := ⟨1, ![40960]⟩
abbrev S40960x1 : Shape := ⟨2, ![40960, 1]⟩
abbrev S1 : Shape := ⟨1, ![1]⟩
abbrev S1x1 : Shape := ⟨2, ![1, 1]⟩
abbrev S32x3x40960 : Shape := ⟨3, ![32, 3, 40960]⟩
abbrev S32x3x160x16x16 : Shape := ⟨5, ![32, 3, 160, 16, 16]⟩
abbrev S32x160x3x16x16 : Shape := ⟨5, ![32, 160, 3, 16, 16]⟩

abbrev nBuf : Space → Nat
  | .hbm => 185
  | .vmem => 0
  | .smem => 0
  | _ => 0

abbrev hbmTy0_0 (i : Nat) : BufTy := match i % 128 with
  | 0 => ⟨S32x3x512x512, .f32⟩
  | 1 => ⟨S160, .i32⟩
  | 2 => ⟨S160x2, .i32⟩
  | 3 => ⟨S160, .f32⟩
  | 4 => ⟨S_, .i32⟩
  | 5 => ⟨S_, .f32⟩
  | 6 => ⟨S32x3x513x513, .f32⟩
  | 7 => ⟨S_, .f32⟩
  | 8 => ⟨S_, .f32⟩
  | 9 => ⟨S32x3x513x513, .f32⟩
  | 10 => ⟨S_, .f32⟩
  | 11 => ⟨S_, .f32⟩
  | 12 => ⟨S32x3x513x513, .f32⟩
  | 13 => ⟨S16x16, .i32⟩
  | 14 => ⟨S16x16, .i32⟩
  | 15 => ⟨S16x16x1, .i32⟩
  | 16 => ⟨S16x16x1, .i32⟩
  | 17 => ⟨S16x16x2, .i32⟩
  | 18 => ⟨S1x16x16x2, .i32⟩
  | 19 => ⟨S160x1x1x1, .i32⟩
  | 20 => ⟨S160x1x1x2, .i32⟩
  | 21 => ⟨S160x16x16x2, .i32⟩
  | 22 => ⟨S160x16x16x2, .i32⟩
  | 23 => ⟨S160x16x16x2, .i32⟩
  | 24 => ⟨S160x16x16x2, .i32⟩
  | 25 => ⟨S160x16x16x2, .i32⟩
  | 26 => ⟨S160x16x16x2, .i32⟩
  | 27 => ⟨S160x16x16x2, .i32⟩
  | 28 => ⟨S32x3x263169, .f32⟩
  | 29 => ⟨S160x16x16x1, .i32⟩
  | 30 => ⟨S160x16x16, .i32⟩
  | 31 => ⟨S_, .i32⟩
  | 32 => ⟨S160x16x16, .i32⟩
  | 33 => ⟨S160x16x16, .i32⟩
  | 34 => ⟨S160x16x16x1, .i32⟩
  | 35 => ⟨S160x16x16, .i32⟩
  | 36 => ⟨S160x16x16, .i32⟩
  | 37 => ⟨S160x16x16x1, .i32⟩
  | 38 => ⟨S160x16x16, .i32⟩
  | 39 => ⟨S160x16x16x1, .i32⟩
  | 40 => ⟨S160x16x16, .i32⟩
  | 41 => ⟨S160x16x16x1, .i32⟩
  | 42 => ⟨S160x16x16x1, .i32⟩
  | 43 => ⟨S160x16x16x2, .i32⟩
  | 44 => ⟨S160x16x16x1, .i32⟩
  | 45 => ⟨S160x16x16, .i32⟩
  | 46 => ⟨S_, .i32⟩
  | 47 => ⟨S160x16x16, .i32⟩
  | 48 => ⟨S160x16x16, .i32⟩
  | 49 => ⟨S160x16x16x1, .i32⟩
  | 50 => ⟨S160x16x16, .i32⟩
  | 51 => ⟨S160x16x16, .i32⟩
  | 52 => ⟨S160x16x16x1, .i32⟩
  | 53 => ⟨S160x16x16, .i32⟩
  | 54 => ⟨S160x16x16x1, .i32⟩
  | 55 => ⟨S160x16x16, .i32⟩
  | 56 => ⟨S160x16x16x1, .i32⟩
  | 57 => ⟨S160x16x16x1, .i32⟩
  | 58 => ⟨S160x16x16x2, .i32⟩
  | 59 => ⟨S160x16x16x1, .i32⟩
  | 60 => ⟨S160x16x16, .i32⟩
  | 61 => ⟨S_, .i32⟩
  | 62 => ⟨S160x16x16, .i32⟩
  | 63 => ⟨S160x16x16, .i32⟩
  | 64 => ⟨S160x16x16x1, .i32⟩
  | 65 => ⟨S160x16x16, .i32⟩
  | 66 => ⟨S160x16x16, .i32⟩
  | 67 => ⟨S160x16x16x1, .i32⟩
  | 68 => ⟨S160x16x16, .i32⟩
  | 69 => ⟨S_, .i32⟩
  | 70 => ⟨S160x16x16, .i32⟩
  | 71 => ⟨S160x16x16, .i32⟩
  | 72 => ⟨S160x16x16x1, .i32⟩
  | 73 => ⟨S160x16x16, .i32⟩
  | 74 => ⟨S160x16x16, .i32⟩
  | 75 => ⟨S1x160x1x1x1, .f32⟩
  | 76 => ⟨S40960, .i32⟩
  | 77 => ⟨S_, .i32⟩
  | 78 => ⟨S40960, .i32⟩
  | 79 => ⟨S40960, .i1⟩
  | 80 => ⟨S_, .i32⟩
  | 81 => ⟨S40960, .i32⟩
  | 82 => ⟨S40960, .i32⟩
  | 83 => ⟨S40960, .i32⟩
  | 84 => ⟨S40960x1, .i32⟩
  | 85 => ⟨S1, .i32⟩
  | 86 => ⟨S_, .i32⟩
  | 87 => ⟨S40960x1, .i32⟩
  | 88 => ⟨S40960x1, .i1⟩
  | 89 => ⟨S1x1, .i32⟩
  | 90 => ⟨S40960x1, .i32⟩
  | 91 => ⟨S40960x1, .i1⟩
  | 92 => ⟨S40960x1, .i1⟩
  | 93 => ⟨S_, .i1⟩
  | 94 => ⟨S40960, .i1⟩
  | 95 => ⟨S32x3x40960, .f32⟩
  | 96 => ⟨S32x3x40960, .i1⟩
  | 97 => ⟨S_, .f32⟩
  | 98 => ⟨S32x3x40960, .f32⟩
  | 99 => ⟨S32x3x40960, .f32⟩
  | 100 => ⟨S32x3x160x16x16, .f32⟩
  | 101 => ⟨S32x160x3x16x16, .f32⟩
  | 102 => ⟨S40960, .i32⟩
  | 103 => ⟨S_, .i32⟩
  | 104 => ⟨S40960, .i32⟩
  | 105 => ⟨S40960, .i1⟩
  | 106 => ⟨S_, .i32⟩
  | 107 => ⟨S40960, .i32⟩
  | 108 => ⟨S40960, .i32⟩
  | 109 => ⟨S40960, .i32⟩
  | 110 => ⟨S40960x1, .i32⟩
  | 111 => ⟨S1, .i32⟩
  | 112 => ⟨S_, .i32⟩
  | 113 => ⟨S40960x1, .i32⟩
  | 114 => ⟨S40960x1, .i1⟩
  | 115 => ⟨S1x1, .i32⟩
  | 116 => ⟨S40960x1, .i32⟩
  | 117 => ⟨S40960x1, .i1⟩
  | 118 => ⟨S40960x1, .i1⟩
  | 119 => ⟨S_, .i1⟩
  | 120 => ⟨S40960, .i1⟩
  | 121 => ⟨S32x3x40960, .f32⟩
  | 122 => ⟨S32x3x40960, .i1⟩
  | 123 => ⟨S_, .f32⟩
  | 124 => ⟨S32x3x40960, .f32⟩
  | 125 => ⟨S32x3x40960, .f32⟩
  | 126 => ⟨S32x3x160x16x16, .f32⟩
  | 127 => ⟨S32x160x3x16x16, .f32⟩
  | _ => ⟨S32x3x512x512, .f32⟩

abbrev hbmTy0_1 (i : Nat) : BufTy := match i % 128 with
  | 0 => ⟨S32x160x3x16x16, .f32⟩
  | 1 => ⟨S40960, .i32⟩
  | 2 => ⟨S_, .i32⟩
  | 3 => ⟨S40960, .i32⟩
  | 4 => ⟨S40960, .i1⟩
  | 5 => ⟨S_, .i32⟩
  | 6 => ⟨S40960, .i32⟩
  | 7 => ⟨S40960, .i32⟩
  | 8 => ⟨S40960, .i32⟩
  | 9 => ⟨S40960x1, .i32⟩
  | 10 => ⟨S1, .i32⟩
  | 11 => ⟨S_, .i32⟩
  | 12 => ⟨S40960x1, .i32⟩
  | 13 => ⟨S40960x1, .i1⟩
  | 14 => ⟨S1x1, .i32⟩
  | 15 => ⟨S40960x1, .i32⟩
  | 16 => ⟨S40960x1, .i1⟩
  | 17 => ⟨S40960x1, .i1⟩
  | 18 => ⟨S_, .i1⟩
  | 19 => ⟨S40960, .i1⟩
  | 20 => ⟨S32x3x40960, .f32⟩
  | 21 => ⟨S32x3x40960, .i1⟩
  | 22 => ⟨S_, .f32⟩
  | 23 => ⟨S32x3x40960, .f32⟩
  | 24 => ⟨S32x3x40960, .f32⟩
  | 25 => ⟨S32x3x160x16x16, .f32⟩
  | 26 => ⟨S32x160x3x16x16, .f32⟩
  | 27 => ⟨S32x160x3x16x16, .f32⟩
  | 28 => ⟨S40960, .i32⟩
  | 29 => ⟨S_, .i32⟩
  | 30 => ⟨S40960, .i32⟩
  | 31 => ⟨S40960, .i1⟩
  | 32 => ⟨S_, .i32⟩
  | 33 => ⟨S40960, .i32⟩
  | 34 => ⟨S40960, .i32⟩
  | 35 => ⟨S40960, .i32⟩
  | 36 => ⟨S40960x1, .i32⟩
  | 37 => ⟨S1, .i32⟩
  | 38 => ⟨S_, .i32⟩
  | 39 => ⟨S40960x1, .i32⟩
  | 40 => ⟨S40960x1, .i1⟩
  | 41 => ⟨S1x1, .i32⟩
  | 42 => ⟨S40960x1, .i32⟩
  | 43 => ⟨S40960x1, .i1⟩
  | 44 => ⟨S40960x1, .i1⟩
  | 45 => ⟨S_, .i1⟩
  | 46 => ⟨S40960, .i1⟩
  | 47 => ⟨S32x3x40960, .f32⟩
  | 48 => ⟨S32x3x40960, .i1⟩
  | 49 => ⟨S_, .f32⟩
  | 50 => ⟨S32x3x40960, .f32⟩
  | 51 => ⟨S32x3x40960, .f32⟩
  | 52 => ⟨S32x3x160x16x16, .f32⟩
  | 53 => ⟨S32x160x3x16x16, .f32⟩
  | 54 => ⟨S32x160x3x16x16, .f32⟩
  | 55 => ⟨S32x160x3x16x16, .f32⟩
  | 56 => ⟨S32x160x3x16x16, .f32⟩
  | _ => ⟨S32x3x512x512, .f32⟩

abbrev hbmTy (i : Nat) : BufTy := match i / 128 with
  | 0 => hbmTy0_0 i
  | 1 => hbmTy0_1 i
  | _ => ⟨S32x3x512x512, .f32⟩

abbrev bufTy : (tb : Table) → Fin (tcTables nBuf tb) → BufTy
  | .hbm, ⟨i, _⟩ => hbmTy i
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_c_1 : Ref sig .tc := ⟨.hbm, 4, rfl⟩
abbrev main_call0_v0 : Ref sig .tc := ⟨.hbm, 5, rfl⟩
abbrev main_v0 : Ref sig .tc := ⟨.hbm, 6, rfl⟩
abbrev main_call1_call0_cst : Ref sig .tc := ⟨.hbm, 7, rfl⟩
abbrev main_call1_call0_v0 : Ref sig .tc := ⟨.hbm, 8, rfl⟩
abbrev main_v1 : Ref sig .tc := ⟨.hbm, 9, rfl⟩
abbrev main_call2_call0_cst : Ref sig .tc := ⟨.hbm, 10, rfl⟩
abbrev main_call2_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_4 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_c_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_v14 : Ref sig .tc := ⟨.hbm, 122, rfl⟩
abbrev main_call4_cst : Ref sig .tc := ⟨.hbm, 123, rfl⟩
abbrev main_call4_v15 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_c_1 : Ref sig .tc := ⟨.hbm, 138, rfl⟩
abbrev main_call5_c_2 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_3 : Ref sig .tc := ⟨.hbm, 146, rfl⟩
abbrev main_call5_v12 : Ref sig .tc := ⟨.hbm, 147, rfl⟩
abbrev main_call5_v13 : Ref sig .tc := ⟨.hbm, 148, rfl⟩
abbrev main_call5_v14 : Ref sig .tc := ⟨.hbm, 149, rfl⟩
abbrev main_call5_cst : Ref sig .tc := ⟨.hbm, 150, rfl⟩
abbrev main_call5_v15 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_v14 : Ref sig .tc := ⟨.hbm, 176, rfl⟩
abbrev main_call6_cst : Ref sig .tc := ⟨.hbm, 177, rfl⟩
abbrev main_call6_v15 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩

abbrev nD : Nat := 1
abbrev τ : Topo := Topo.v7x

variable {F : FTy → Type} [FloatOps F]
-- ==== Proof.Finite.lean ====
/- The precondition, read: where it holds, every pixel is a real number. -/
module

public import proofs.«01_k».proof.Pre_finite
public import Idealize.ShloMosaic.Lib.Pointwise

@[expose] public section

noncomputable section

namespace Cert.BoxMean

open Idealize.ShloMosaic
open Cert.Pre_finite

/-- The one shape relation the precondition's operations take. -/
instance finiteFacts : Cert.Pre_finite.Facts where
  bcast_S_S32x3x512x512 := by decide

/-- The word of plus infinity. -/
theorem ofBits_inf : Ideal.ofBits .f32 0x7F800000#32 = (⊤ : EReal) := by
  simp [Ideal.ofBits, Ideal.ieee, -EReal.coe_mul]

/-- The word of minus infinity. -/
theorem ofBits_neg_inf : Ideal.ofBits .f32 0xFF800000#32 = (⊥ : EReal) := by
  simp [Ideal.ofBits, Ideal.ieee, -EReal.coe_mul]

/-- Pixels strictly between the infinities are the extended reals of their real values. -/
theorem real_of_finite (x : FVec Ideal S32x3x512x512 .f32) (h : Cert.Pre_finite.fn (F := Ideal) x = fun _ => 1#1)
    (j : S32x3x512x512.Idx) : (((x j : EReal).toReal : ℝ) : EReal) = x j := by
  have hj := congrFun h j
  revert hj
  pointwise [Cert.Pre_finite.fn]
  intro hj
  rw [ofBits_inf, ofBits_neg_inf] at hj
  refine EReal.coe_toReal (fun e => ?_) (fun e => ?_) <;> rw [e] at hj <;> simp [IntOp.andi] at hj

end Cert.BoxMean

end
-- ==== Proof.Spec.lean ====
/- The result both programs compute, as one function of the pixels: every output element is the mean of a square box
   of the image. The boxes of token `n` have side `stride n`; the box of its element `(i, k)` starts `stride n · i` rows
   and `stride n · k` columns after the token's corner `(row n, col n)`. -/
module

public import Mathlib.Algebra.BigOperators.Intervals
public import Mathlib.Data.Real.Basic
public import Mathlib.Tactic.Ring
public import Mathlib.Tactic.Linarith

@[expose] public section

noncomputable section

namespace Cert.BoxMean

open Finset

/-- The `n`-th cell of the 8 × 8 grid of cells, row by row, when the inner 4 × 4 cells are left out. -/
def ring (n : ℕ) : ℕ :=
  if n < 16 then n else if n < 32 then 16 + 8 * ((n - 16) / 4) + (if (n - 16) % 4 < 2 then (n - 16) % 4 else (n - 16) % 4 + 4)
  else n + 16

/-- The side of token `n`'s boxes: 1 for the 64 centre tokens, 2 for the next ring of 48, 4 for the last ring of 48. -/
def stride (n : ℕ) : ℕ := if n < 64 then 1 else if n < 112 then 2 else 4

/-- Where token `n` lies in the 8 × 8 grid of its level. -/
def cell (n : ℕ) : ℕ := if n < 64 then n else if n < 112 then ring (n - 64) else ring (n - 112)

/-- The first image row, and the first image column, of the square that the grid of token `n`'s level covers. -/
def base (n : ℕ) : ℕ := if n < 64 then 192 else if n < 112 then 128 else 0

/-- The image row of token `n`'s upper left corner. -/
def row (n : ℕ) : ℕ := base n + 16 * stride n * (cell n / 8)

/-- The image column of token `n`'s upper left corner. -/
def col (n : ℕ) : ℕ := base n + 16 * stride n * (cell n % 8)

/-- The sum of the `w × w` box of `X` whose upper left corner is `(r, s)`. -/
def boxSum (X : ℕ → ℕ → ℝ) (r s w : ℕ) : ℝ := ∑ i ∈ range w, ∑ j ∈ range w, X (r + i) (s + j)

/-- Element `(i, k)` of token `n`: the mean of its box. -/
def mean (X : ℕ → ℕ → ℝ) (n i k : ℕ) : ℝ :=
  boxSum X (row n + stride n * i) (col n + stride n * k) (stride n) / (stride n : ℝ) ^ 2

/-- The integral image: the sum of `X` over the rows before `i` and the columns before `j`. -/
def integral (X : ℕ → ℕ → ℝ) (i j : ℕ) : ℝ := ∑ r ∈ range i, ∑ s ∈ range j, X r s

/-- A sum over the numbers below `a + w`, less the sum over those below `a`, is the sum over the `w` numbers from `a`. -/
theorem prefix_sub (f : ℕ → ℝ) (a w : ℕ) : ∑ i ∈ range (a + w), f i - ∑ i ∈ range a, f i = ∑ i ∈ range w, f (a + i) := by
  rw [sum_range_add]; ring

/-- The four corners of the integral image give the box's sum. -/
theorem corners (X : ℕ → ℕ → ℝ) (r s w : ℕ) :
    integral X r s + integral X (r + w) (s + w) - integral X (r + w) s - integral X r (s + w) = boxSum X r s w := by
  have h : ∀ t, integral X (r + w) t - integral X r t = ∑ i ∈ range w, ∑ j ∈ range t, X (r + i) j := fun t =>
    prefix_sub (fun i => ∑ j ∈ range t, X i j) r w
  have e : integral X r s + integral X (r + w) (s + w) - integral X (r + w) s - integral X r (s + w)
      = (integral X (r + w) (s + w) - integral X r (s + w)) - (integral X (r + w) s - integral X r s) := by ring
  rw [e, h, h, ← sum_sub_distrib]
  exact sum_congr rfl fun i _ => prefix_sub (fun j => X (r + i) j) s w

/-- A 2 × 2 box, spelt out. -/
theorem boxSum_two (X : ℕ → ℕ → ℝ) (r s : ℕ) :
    boxSum X r s 2 = X r s + X r (s + 1) + (X (r + 1) s + X (r + 1) (s + 1)) := by
  simp [boxSum, sum_range_succ]

/-- A 4 × 4 box is four 2 × 2 boxes. -/
theorem boxSum_four (X : ℕ → ℕ → ℝ) (r s : ℕ) :
    boxSum X r s 4 = boxSum X r s 2 + boxSum X r (s + 2) 2 + (boxSum X (r + 2) s 2 + boxSum X (r + 2) (s + 2) 2) := by
  simp only [boxSum, sum_range_succ, sum_range_zero, Nat.add_assoc]
  norm_num
  ring

/-- A token's grid cell is below 64. -/
theorem cell_lt {n : ℕ} (h : n < 160) : cell n < 64 := by
  unfold cell Cert.BoxMean.ring; split_ifs <;> omega

end Cert.BoxMean

end
-- ==== Proof.Pool.lean ====
/- The kernel's two pooling steps, read at an element: a product with the pooling matrix adds a pair of neighbouring
   columns and scales the sum by a quarter, so over the reals each step takes the mean of 2 × 2 boxes. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.BoxMean

open Idealize.ShloMosaic Idealize.ShloMosaic.TcCoe Idealize.SL.Sem
open Cert.KernelIdeal Cert.KernelIdeal.Gen

/-- The word the kernel computes for `x // 2`. -/
def half (x : ℕ) : BitVec 32 :=
  Scalar.select
    (IntOp.andi
      (IntOp.cmpi .ne
        (IntOp.subi (BitVec.setWidth 32 (IntOp.cmpi .sgt (BitVec.ofNat 32 x) 0#32))
          (BitVec.setWidth 32 (IntOp.cmpi .slt (BitVec.ofNat 32 x) 0#32)))
        (Scalar.subi (Scalar.extui (Scalar.cmpi .sgt 2#32 0#32)) (Scalar.extui (Scalar.cmpi .slt 2#32 0#32))))
      (IntOp.cmpi .ne (IntOp.remsi ArithUnit.vector (BitVec.ofNat 32 x) 2#32) 0#32))
    (IntOp.subi (IntOp.divsi ArithUnit.vector (BitVec.ofNat 32 x) 2#32) 1#32)
    (IntOp.divsi ArithUnit.vector (BitVec.ofNat 32 x) 2#32)

/-- It is the word of the floor of `x / 2`, for every column number. -/
theorem half_eq (x : Fin 512) : half x = BitVec.ofNat 32 (x / 2) :=
  (by decide +kernel : ∀ x : Fin 512, half x = BitVec.ofNat 32 (x / 2)) x

/-- Comparing that word with a column number below 256. -/
theorem half_cmp (x : Fin 512) (j : Fin 256) :
    IntOp.cmpi .eq (half x) (BitVec.ofNat 32 (j : ℕ)) = BitVec.ofBool (decide ((x : ℕ) / 2 = j)) := by
  rw [half_eq]
  have h : (BitVec.ofNat 32 ((x : ℕ) / 2) = BitVec.ofNat 32 (j : ℕ)) ↔ (x : ℕ) / 2 = j := by
    constructor
    · intro h
      have := congrArg BitVec.toNat h
      simp only [BitVec.toNat_ofNat] at this
      omega
    · intro h; rw [h]
  by_cases e : (x : ℕ) / 2 = j
  · simp [IntOp.cmpi, e]
  · have hb : (BitVec.ofNat 32 ((x : ℕ) / 2) == BitVec.ofNat 32 (j : ℕ)) = false := by
      rw [beq_eq_false_iff_ne]; exact mt h.mp e
    simp [IntOp.cmpi, e, hb]

/-- A sum over `2 N` columns of which only the pair `2 j`, `2 j + 1` counts. -/
theorem sum_pair {N M : ℕ} (hM : M = 2 * N) (f : Fin M → EReal) (j : Fin N) :
    ∑ x : Fin M, (if (x : ℕ) / 2 = j then f x else 0) = f ⟨2 * j, by omega⟩ + f ⟨2 * j + 1, by omega⟩ := by
  have hs : (Finset.univ.filter fun x : Fin M => (x : ℕ) / 2 = j)
      = {(⟨2 * j, by omega⟩ : Fin M), (⟨2 * j + 1, by omega⟩ : Fin M)} := by
    ext x
    simp only [Finset.mem_filter, Finset.mem_univ, true_and, Finset.mem_insert, Finset.mem_singleton, Fin.ext_iff]
    omega
  rw [← Finset.sum_filter, hs, Finset.sum_pair (by simp [Fin.ext_iff])]

/-- The scale of the pooling matrix is a quarter. -/
theorem quarter : Ideal.ofBits .f32 0x3E800000#32 = ((1 / 4 : ℝ) : EReal) := by
  simp [Ideal.ofBits, Ideal.ieee, -EReal.coe_mul]; norm_num

/-- The first pooling step at an element. -/
theorem pool1_sum (v0 : Vec Ideal S1x1x512x512 .f32) (i j : Fin 256) :
    k0_pay3 v0 (ix2 i j) = ∑ x : Fin 512, Scalar.select (IntOp.cmpi .eq (half x) (BitVec.ofNat 32 (j : ℕ)))
      ((∑ a : Fin 2, v0 (ix4 0 0 ⟨(i : ℕ) * 2 + a, by omega⟩ x)) * Ideal.ofBits .f32 0x3E800000#32) 0 := by
  pointwise [k0_pay3, k0_pay2]
  rfl

/-- One pooling step over the reals: pairs of rows added, pairs of columns picked out by the pooling matrix and scaled
    by a quarter. -/
theorem pool_step {N M : ℕ} (hM : M = 2 * N) (Y : ℕ → ℕ → ℝ) (r : ℕ) (hlt : M ≤ 512) (hN : N ≤ 256)
    (f : Fin 2 → Fin M → EReal) (hf : ∀ a x, f a x = ((Y (r + a) x : ℝ) : EReal)) (j : Fin N) :
    (∑ x : Fin M, Scalar.select (IntOp.cmpi .eq (half x) (BitVec.ofNat 32 (j : ℕ)))
      ((∑ a : Fin 2, f a x) * Ideal.ofBits .f32 0x3E800000#32) 0)
      = ((boxSum Y r (2 * j) 2 / 4 : ℝ) : EReal) := by
  have hc : ∀ x : Fin M, Scalar.select (IntOp.cmpi .eq (half x) (BitVec.ofNat 32 (j : ℕ)))
      ((∑ a : Fin 2, f a x) * Ideal.ofBits .f32 0x3E800000#32) 0
      = if (x : ℕ) / 2 = j then (((Y r x + Y (r + 1) x) * (1 / 4) : ℝ) : EReal) else 0 := fun x => by
    have hx := half_cmp ⟨x, by omega⟩ ⟨j, by omega⟩
    dsimp only at hx
    rw [hx, Scalar.select_ofBool, Fin.sum_univ_two, hf, hf, quarter, ← EReal.coe_add, ← EReal.coe_mul]
    simp
  simp only [hc]
  rw [sum_pair hM, ← EReal.coe_add, boxSum_two]
  congr 1
  ring

/-- The first pooling step of a block of reals `X` has the means of the 2 × 2 boxes. -/
theorem pool1 (v0 : Vec Ideal S1x1x512x512 .f32) (X : ℕ → ℕ → ℝ)
    (hX : ∀ r s : Fin 512, v0 (ix4 0 0 r s) = ((X r s : ℝ) : EReal)) (i j : Fin 256) :
    k0_pay3 v0 (ix2 i j) = ((boxSum X (2 * i) (2 * j) 2 / 4 : ℝ) : EReal) := by
  rw [pool1_sum]
  refine pool_step (by norm_num) X (2 * i) (by norm_num) (by norm_num)
    (fun a x => v0 (ix4 0 0 ⟨(i : ℕ) * 2 + a, by omega⟩ x)) (fun a x => ?_) j
  rw [hX]; dsimp only; rw [Nat.mul_comm (i : ℕ) 2]

/-- The second pooling step at an element. -/
theorem pool2_sum (v0 : Vec Ideal S1x1x512x512 .f32) (i j : Fin 128) :
    k0_pay6 (k0_pay4 v0) (iota .tc S256x128 32 [0] iota_S256x128_d0_w32) (iota .tc S256x128 32 [1] iota_S256x128_d1_w32) 2#32 k0_pay5 (ix2 i j)
      = ∑ x : Fin 256, Scalar.select (IntOp.cmpi .eq (half x) (BitVec.ofNat 32 (j : ℕ)))
      ((∑ a : Fin 2, k0_pay3 v0 (ix2 ⟨(i : ℕ) * 2 + a, by omega⟩ x)) * Ideal.ofBits .f32 0x3E800000#32) 0 := by
  pointwise [k0_pay6, k0_pay4, k0_pay5]
  rfl

/-- The second pooling step of a block of reals `X` has the means of the 4 × 4 boxes. -/
theorem pool2 (v0 : Vec Ideal S1x1x512x512 .f32) (X : ℕ → ℕ → ℝ)
    (hX : ∀ r s : Fin 512, v0 (ix4 0 0 r s) = ((X r s : ℝ) : EReal)) (i j : Fin 128) :
    k0_pay6 (k0_pay4 v0) (iota .tc S256x128 32 [0] iota_S256x128_d0_w32) (iota .tc S256x128 32 [1] iota_S256x128_d1_w32) 2#32 k0_pay5 (ix2 i j)
      = ((boxSum X (4 * i) (4 * j) 4 / 16 : ℝ) : EReal) := by
  rw [pool2_sum]
  refine (pool_step (by norm_num) (fun r s => boxSum X (2 * r) (2 * s) 2 / 4) (2 * i) (by norm_num) (by norm_num)
    (fun a x => k0_pay3 v0 (ix2 ⟨(i : ℕ) * 2 + a, by omega⟩ x)) (fun a x => ?_) j).trans ?_
  · rw [pool1 v0 X hX]; dsimp only; rw [Nat.mul_comm (i : ℕ) 2]
  · congr 1
    rw [boxSum_two, boxSum_four]
    have e1 : 2 * (2 * (i : ℕ)) = 4 * i := by ring
    have e2 : 2 * (2 * (j : ℕ)) = 4 * j := by ring
    have e3 : 2 * (2 * (i : ℕ) + 1) = 4 * i + 2 := by ring
    have e4 : 2 * (2 * (j : ℕ) + 1) = 4 * j + 2 := by ring
    rw [e1, e2, e3, e4]
    ring

end Cert.BoxMean

end
-- ==== Proof.Tokens.lean ====
/- The kernel cuts its three levels into 16 × 16 tokens by slices, stacks and transposes. Here each of those layout
   steps is read at an element: it is one element of the level, at the token's grid cell. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.BoxMean

open Idealize.ShloMosaic Idealize.ShloMosaic.TcCoe Idealize.SL.Sem
open Cert.KernelIdeal Cert.KernelIdeal.Gen

/-- An element of the ring of cells, bounded: its row and column in the 8 × 8 grid are below 8. -/
theorem ring_lt {n : ℕ} (h : n < 48) : Cert.BoxMean.ring n < 64 := by
  unfold Cert.BoxMean.ring; split_ifs <;> omega

/-- A 128 × 128 level cut into its 64 cells of 16 × 16 elements: eight columns stacked, split into rows of cells, and the
    cells brought into row order. -/
def cells (v : FVec Ideal S128x128 .f32) : FVec Ideal S64x16x16 .f32 :=
  shapeCast S64x16x16 (transpose S8x8x16x16 [1, 0, 2, 3] (shapeCast S8x8x16x16 (concatenate S8x128x16 0 [
     ⟨S1x128x16, shapeCast S1x128x16 (extractStridedSlice S128x16 ![0, 0] v slices_S128x128_o0_0_S128x16) shapeCasts_S128x16_S1x128x16⟩,
     ⟨S1x128x16, shapeCast S1x128x16 (extractStridedSlice S128x16 ![0, 16] v slices_S128x128_o0_16_S128x16) shapeCasts_S128x16_S1x128x16⟩,
     ⟨S1x128x16, shapeCast S1x128x16 (extractStridedSlice S128x16 ![0, 32] v slices_S128x128_o0_32_S128x16) shapeCasts_S128x16_S1x128x16⟩,
     ⟨S1x128x16, shapeCast S1x128x16 (extractStridedSlice S128x16 ![0, 48] v slices_S128x128_o0_48_S128x16) shapeCasts_S128x16_S1x128x16⟩,
     ⟨S1x128x16, shapeCast S1x128x16 (extractStridedSlice S128x16 ![0, 64] v slices_S128x128_o0_64_S128x16) shapeCasts_S128x16_S1x128x16⟩,
     ⟨S1x128x16, shapeCast S1x128x16 (extractStridedSlice S128x16 ![0, 80] v slices_S128x128_o0_80_S128x16) shapeCasts_S128x16_S1x128x16⟩,
     ⟨S1x128x16, shapeCast S1x128x16 (extractStridedSlice S128x16 ![0, 96] v slices_S128x128_o0_96_S128x16) shapeCasts_S128x16_S1x128x16⟩,
     ⟨S1x128x16, shapeCast S1x128x16 (extractStridedSlice S128x16 ![0, 112] v slices_S128x128_o0_112_S128x16) shapeCasts_S128x16_S1x128x16⟩]
    concatenates_S1x128x16_S1x128x16_S1x128x16_S1x128x16_S1x128x16_S1x128x16_S1x128x16_S1x128x16_S8x128x16_d0)
    shapeCasts_S8x128x16_S8x8x16x16) transposes_S8x8x16x16_p1_0_2_3_S8x8x16x16) shapeCasts_S8x8x16x16_S64x16x16

/-- Cell `n`'s element `(i, k)` is the level's, in the cell's row and column of the grid. -/
theorem cells_apply (v : FVec Ideal S128x128 .f32) (n : Fin 64) (i k : Fin 16) :
    cells v (ix3 n i k) = v (ix2 ⟨16 * ((n : ℕ) / 8) + i, by omega⟩ ⟨16 * ((n : ℕ) % 8) + k, by omega⟩) := by
  pointwise [cells]
  repeat' split
  all_goals exact congrArg v ((ix2_inj ..).2 ⟨Fin.ext (by dsimp only; omega), Fin.ext (by dsimp only; omega)⟩)

/-- The 64 cells without the inner 16. -/
def outer (g : FVec Ideal S64x16x16 .f32) : FVec Ideal S48x16x16 .f32 :=
  concatenate S48x16x16 0 [⟨S16x16x16, extractStridedSlice S16x16x16 ![0, 0, 0] g slices_S64x16x16_o0_0_0_S16x16x16⟩,
     ⟨S2x16x16, extractStridedSlice S2x16x16 ![16, 0, 0] g slices_S64x16x16_o16_0_0_S2x16x16⟩,
     ⟨S2x16x16, extractStridedSlice S2x16x16 ![22, 0, 0] g slices_S64x16x16_o22_0_0_S2x16x16⟩,
     ⟨S2x16x16, extractStridedSlice S2x16x16 ![24, 0, 0] g slices_S64x16x16_o24_0_0_S2x16x16⟩,
     ⟨S2x16x16, extractStridedSlice S2x16x16 ![30, 0, 0] g slices_S64x16x16_o30_0_0_S2x16x16⟩,
     ⟨S2x16x16, extractStridedSlice S2x16x16 ![32, 0, 0] g slices_S64x16x16_o32_0_0_S2x16x16⟩,
     ⟨S2x16x16, extractStridedSlice S2x16x16 ![38, 0, 0] g slices_S64x16x16_o38_0_0_S2x16x16⟩,
     ⟨S2x16x16, extractStridedSlice S2x16x16 ![40, 0, 0] g slices_S64x16x16_o40_0_0_S2x16x16⟩,
     ⟨S2x16x16, extractStridedSlice S2x16x16 ![46, 0, 0] g slices_S64x16x16_o46_0_0_S2x16x16⟩,
     ⟨S16x16x16, extractStridedSlice S16x16x16 ![48, 0, 0] g slices_S64x16x16_o48_0_0_S16x16x16⟩]
    concatenates_S16x16x16_S2x16x16_S2x16x16_S2x16x16_S2x16x16_S2x16x16_S2x16x16_S2x16x16_S2x16x16_S16x16x16_S48x16x16_d0

/-- The `n`-th of them is cell `ring n`. -/
theorem outer_apply (g : FVec Ideal S64x16x16 .f32) (n : Fin 48) (i k : Fin 16) :
    outer g (ix3 n i k) = g (ix3 ⟨Cert.BoxMean.ring n, ring_lt n.isLt⟩ i k) := by
  pointwise [outer]
  repeat' split
  all_goals
    refine congrArg g ((ix3_inj ..).2 ⟨Fin.ext ?_, rfl, rfl⟩)
    simp only [Cert.BoxMean.ring]
    split_ifs <;> omega

/-- The centre tokens: token `n`'s element `(i, k)` is the image's, 192 rows and columns in, at grid cell `n`. -/
theorem tokens0 (v : FVec Ideal S512x512 .f32) (n : Fin 64) (i k : Fin 16) :
    k0_pay7 v (ix3 n i k) = v (ix2 ⟨192 + (16 * ((n : ℕ) / 8) + i), by omega⟩ ⟨192 + (16 * ((n : ℕ) % 8) + k), by omega⟩) := by
  show cells (extractStridedSlice S128x128 ![192, 192] v slices_S512x512_o192_192_S128x128) (ix3 n i k) = _
  rw [cells_apply]
  pointwise

/-- The first ring of tokens, cut from the once pooled image 64 rows and columns in. -/
theorem tokens1 (v : FVec Ideal S256x256 .f32) (n : Fin 48) (i k : Fin 16) :
    k0_pay11 (k0_pay8 v) (k0_pay9 v) (k0_pay10 v) (ix3 n i k)
      = v (ix2 ⟨64 + (16 * (Cert.BoxMean.ring n / 8) + i), by have := ring_lt n.isLt; omega⟩
          ⟨64 + (16 * (Cert.BoxMean.ring n % 8) + k), by have := ring_lt n.isLt; omega⟩) := by
  show outer (cells (k0_pay8 v)) (ix3 n i k) = _
  rw [outer_apply, cells_apply]
  pointwise [k0_pay8]

/-- The last ring of tokens, cut from the twice pooled image. -/
theorem tokens2 (v : FVec Ideal S128x128 .f32) (n : Fin 48) (i k : Fin 16) :
    k0_pay12 v (ix3 n i k)
      = v (ix2 ⟨16 * (Cert.BoxMean.ring n / 8) + i, by have := ring_lt n.isLt; omega⟩
          ⟨16 * (Cert.BoxMean.ring n % 8) + k, by have := ring_lt n.isLt; omega⟩) := by
  show outer (cells v) (ix3 n i k) = _
  rw [outer_apply, cells_apply]

end Cert.BoxMean

end
-- ==== Proof.KernelValue.lean ====
/- The kernel's result array: every point of the grid writes one image channel's 160 tokens, and each of their elements is
   the mean of its box of the channel's pixels. -/
module

public import proofs.«01_k».proof.Proof.Gen.KernelIdeal.Value
public import proofs.«01_k».proof.Proof.Pool
public import proofs.«01_k».proof.Proof.Tokens
public import Idealize.ShloMosaic.Lib.Pipeline.ValueKit

@[expose] public section

set_option maxRecDepth 16384

noncomputable section

namespace Cert.BoxMean

open Idealize.ShloMosaic Idealize.ShloMosaic.TcCoe Idealize.SL.Sem
open Idealize.ShloMosaic.Pipeline (Dat)
open Cert.KernelIdeal Cert.KernelIdeal.Gen

/-- A box of side 1 is its pixel. -/
theorem boxSum_one (X : ℕ → ℕ → ℝ) (r s : ℕ) : boxSum X r s 1 = X r s := by simp [boxSum]

/-- The pixels of channel `c` of image `b` as real numbers, continued by zero outside the image. -/
def pix (x : S32x3x512x512.Idx → EReal) (b : Fin 32) (c : Fin 3) (r s : ℕ) : ℝ :=
  if h : r < 512 ∧ s < 512 then (x (ix4 b c ⟨r, h.1⟩ ⟨s, h.2⟩)).toReal else 0

/-- Inside the image, where no pixel is infinite, they are the pixels. -/
theorem pix_eq {x : S32x3x512x512.Idx → EReal} (hx : ∀ j, ((x j).toReal : EReal) = x j) (b : Fin 32) (c : Fin 3)
    (r s : Fin 512) : ((pix x b c r s : ℝ) : EReal) = x (ix4 b c r s) := by
  rw [pix, dif_pos ⟨r.isLt, s.isLt⟩]; exact hx _

/-- The array of box means: what both programs compute from the pixels `x`. -/
def means (x : S32x3x512x512.Idx → EReal) : S32x160x3x16x16.Idx → EReal := fun j =>
  ((mean (pix x (j 0) (j 2)) (j 1).val (j 3).val (j 4).val : ℝ) : EReal)

/-- The array of box means, at an index given by its five coordinates. -/
theorem means_eq (x : S32x3x512x512.Idx → EReal) (j : S32x160x3x16x16.Idx) (b : Fin 32) (c : Fin 3) {n i k : ℕ}
    (h0 : (j 0).val = b.val) (h1 : (j 1).val = n) (h2 : (j 2).val = c.val) (h3 : (j 3).val = i) (h4 : (j 4).val = k) :
    means x j = ((mean (pix x b c) n i k : ℝ) : EReal) := by
  have e0 : j 0 = b := Fin.ext h0
  have e2 : j 2 = c := Fin.ext h2
  subst h1 h3 h4
  rw [means, e0, e2]

/-- The mean of a box, from its corner and its side. -/
theorem mean_eq (X : ℕ → ℕ → ℝ) {n i k w r s : ℕ} (hw : stride n = w) (hr : row n + w * i = r) (hs : col n + w * k = s) :
    mean X n i k = boxSum X r s w / (w : ℝ) ^ 2 := by subst hw hr hs; rfl

/-- The body's stored value at token `n`'s element `(i, k)`: the mean of its box of the block's pixels. -/
theorem stored (v0 : Vec Ideal S1x1x512x512 .f32) (X : ℕ → ℕ → ℝ)
    (hX : ∀ r s : Fin 512, v0 (ix4 0 0 r s) = ((X r s : ℝ) : EReal)) (n : Fin 160) (i k : Fin 16) :
    k0_pay1 (k0_pay7 (k0_pay2 v0)) (k0_pay11 (k0_pay8 (k0_pay3 v0)) (k0_pay9 (k0_pay3 v0)) (k0_pay10 (k0_pay3 v0)))
      (k0_pay12 (k0_pay6 (k0_pay4 v0) (iota .tc S256x128 32 [0] iota_S256x128_d0_w32)
        (iota .tc S256x128 32 [1] iota_S256x128_d1_w32) 2#32 k0_pay5)) (ix5 0 n 0 i k)
      = ((mean X n i k : ℝ) : EReal) := by
  pointwise [k0_pay1]
  split
  · next h =>
    rw [tokens0]
    have e : stride n = 1 := if_pos h
    have c : cell n = n := if_pos h
    have b : base n = 192 := if_pos h
    rw [mean_eq X e (by rw [row, e, b, c]; omega : _ = 192 + (16 * ((n : ℕ) / 8) + i))
      (by rw [col, e, b, c]; omega : _ = 192 + (16 * ((n : ℕ) % 8) + k)), boxSum_one]
    simp only [Nat.cast_one, one_pow, div_one]
    pointwise [k0_pay2]
    exact hX _ _
  · next h =>
    split
    · next h' =>
      rw [tokens1, pool1 v0 X hX]
      have e : stride n = 2 := by rw [stride, if_neg h, if_pos (by omega)]
      have c : cell n = Cert.BoxMean.ring (n - 64) := by rw [cell, if_neg h, if_pos (by omega)]
      have b : base n = 128 := by rw [base, if_neg h, if_pos (by omega)]
      rw [mean_eq X e (by rw [row, e, b, c]; omega : _ = 2 * (64 + (16 * (Cert.BoxMean.ring (n - 64) / 8) + i)))
        (by rw [col, e, b, c]; omega : _ = 2 * (64 + (16 * (Cert.BoxMean.ring (n - 64) % 8) + k)))]
      norm_num
    · next h' =>
      rw [tokens2, pool2 v0 X hX]
      have e : stride n = 4 := by rw [stride, if_neg h, if_neg (by omega)]
      have c : cell n = Cert.BoxMean.ring (n - 64 - 48) := by rw [cell, if_neg h, if_neg (by omega), Nat.sub_sub]
      have b : base n = 0 := by rw [base, if_neg h, if_neg (by omega)]
      rw [mean_eq X e (by rw [row, e, b, c]; omega : _ = 4 * (16 * (Cert.BoxMean.ring (n - 64 - 48) / 8) + i))
        (by rw [col, e, b, c]; omega : _ = 4 * (16 * (Cert.BoxMean.ring (n - 64 - 48) % 8) + k))]
      norm_num

/-- The same at any index of the block. -/
theorem stored_at (v0 : Vec Ideal S1x1x512x512 .f32) (X : ℕ → ℕ → ℝ)
    (hX : ∀ r s : Fin 512, v0 (ix4 0 0 r s) = ((X r s : ℝ) : EReal)) (y : S1x160x1x16x16.Idx) :
    k0_pay1 (k0_pay7 (k0_pay2 v0)) (k0_pay11 (k0_pay8 (k0_pay3 v0)) (k0_pay9 (k0_pay3 v0)) (k0_pay10 (k0_pay3 v0)))
      (k0_pay12 (k0_pay6 (k0_pay4 v0) (iota .tc S256x128 32 [0] iota_S256x128_d0_w32)
        (iota .tc S256x128 32 [1] iota_S256x128_d1_w32) 2#32 k0_pay5)) y
      = ((mean X (y 1).val (y 3).val (y 4).val : ℝ) : EReal) := by
  have e : y = ix5 0 (y 1) 0 (y 3) (y 4) := by
    funext a
    have h0 : (y 0).val < 1 := (y 0).isLt
    have h2 : (y 2).val < 1 := (y 2).isLt
    fin_cases a
    · exact Fin.ext (by show (y 0).val = 0; omega)
    · rfl
    · exact Fin.ext (by show (y 2).val = 0; omega)
    · rfl
    · rfl
  exact (congrArg _ e).trans (stored v0 X hX (y 1) (y 3) (y 4))

/-- The windows' block numbers at every grid point: the image and the channel of the block read and of the block written. -/
theorem blocks : ∀ t : Fin cfg0.N, win0_0.index t = ![t.val / 3, t.val % 3, 0, 0]
    ∧ win0_1.index t = ![t.val / 3, 0, t.val % 3, 0, 0] :=
  (by decide +kernel : ∀ t : Fin grid0.N, _)

variable (m : (ℓ : Loc nD τ sig) → Buf (Elt Ideal) ℓ)

/-- The result array after the run holds the box means of the argument. -/
theorem final (c : Dev nD)
    (hx : ∀ j : S32x3x512x512.Idx, (((m ((c : Thread nD τ).loc main_arg0) j : EReal).toReal : ℝ) : EReal) = m ((c : Thread nD τ).loc main_arg0) j) :
    (dats m 0 c).arrAt 1 cfg0.N = means (m ((c : Thread nD τ).loc main_arg0)) := by
  refine (dats m 0 c).arrAt_eq_of_covers 1 _ (by decide +kernel) fun t _ y => ?_
  blk_simp
  rw [after0_1]
  frame_out
  unfold k0_pay13
  frame_out
  have ht : (t : ℕ) < 96 := t.isLt
  have hv : ∀ r s : Fin 512, iblk m c 0 t (ix4 0 0 r s)
      = ((pix (m ((c : Thread nD τ).loc main_arg0)) ⟨t.val / 3, by omega⟩ ⟨t.val % 3, by omega⟩ r s : ℝ) : EReal) := by
    intro r s
    rw [pix_eq hx]
    blk_ext [iblk, V, blocks t]
  refine (stored_at _ _ hv y).trans ?_
  have hy : (y 0).val < 1 ∧ (y 2).val < 1 := ⟨(y 0).isLt, (y 2).isLt⟩
  refine (means_eq _ _ _ _ ?_ ?_ ?_ ?_ ?_).symm
  all_goals blk_simp [blocks t]

end Cert.BoxMean

end
-- ==== Proof.Integral.lean ====
/- The reference's integral image: two cumulative sums of the zero-bordered pixels, each a window sum over a whole axis.
   Read at an element it is the sum of the pixels above and to the left. -/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.BoxMean

open Idealize.ShloMosaic Idealize.ShloMosaic.TcCoe Idealize.SL.Sem
open Cert.ReferenceIdeal Cert.ReferenceIdeal.Gen

/-- A finite sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A left fold of additions from zero is the sum of the list. -/
theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The host's window sum from zero is a sum over the window's indices; what the window reads outside the operand is zero. -/
theorem window_sum {s t u : Shape} (window strides lo hi : Fin s.rank → Nat) (x : FVec Ideal s .f32) (init : FVec Ideal u .f32)
    (h : s.ReduceWindows window strides lo hi t) (hu : 0 < u.numel) (hv : init (Shape.Idx.first hu) = (0 : EReal)) (j : t.Idx) :
    Host.reduceWindowAdd window strides lo hi x init h hu j
      = ∑ w : (⟨s.rank, window⟩ : Shape).Idx,
          if hin : ∀ a, lo a ≤ (j (a.cast h.1.symm)).val * strides a + (w a).val
              ∧ (j (a.cast h.1.symm)).val * strides a + (w a).val - lo a < s.size a then
            (x (fun a => ⟨(j (a.cast h.1.symm)).val * strides a + (w a).val - lo a, (hin a).2⟩) : EReal) else 0 := by
  rw [← Equiv.sum_comp (⟨s.rank, window⟩ : Shape).rowMajor.symm, Fin.sum_univ_def]
  unfold Host.reduceWindowAdd
  rw [Ideal.hostReduceWindowAdd_def, hv]
  unfold Ideal.hostReduceWindowAdd Host.reduceWindow
  refine (foldl_add _ _ _).trans ?_
  dsimp only
  rw [zero_add]
  refine congrArg List.sum (List.map_congr_left fun n _ => ?_)
  congr

/-- A window of length `M + 1`, padded low by `M`, that ends at `j` sums the entries up to `j`. -/
theorem window_prefix (f : ℕ → ℝ) (M j : ℕ) (hj : j ≤ M) :
    ∑ w ∈ Finset.range (M + 1), (if M ≤ j + w then f (j + w - M) else 0) = ∑ q ∈ Finset.range (j + 1), f q := by
  obtain ⟨d, rfl⟩ := Nat.exists_eq_add_of_le hj
  rw [show j + d + 1 = d + (j + 1) by omega, Finset.sum_range_add]
  rw [Finset.sum_eq_zero fun w hw => if_neg (by have := Finset.mem_range.1 hw; omega), zero_add]
  refine Finset.sum_congr rfl fun w _ => ?_
  rw [if_pos (by omega)]
  exact congrArg f (by omega)

/-- The same over the extended reals, the window's positions numbered by `Fin`. -/
theorem window_prefix_coe (f : ℕ → ℝ) (j : Fin 513) :
    (∑ w : Fin 513, if 512 ≤ (j : ℕ) + w then ((f (j + w - 512) : ℝ) : EReal) else 0)
      = ((∑ q ∈ Finset.range (j + 1), f q : ℝ) : EReal) := by
  rw [Fin.sum_univ_eq_sum_range (fun w => if 512 ≤ (j : ℕ) + w then ((f (j + w - 512) : ℝ) : EReal) else 0) 513,
    ← window_prefix f 512 j (by omega), ← coe_sum]
  refine Finset.sum_congr rfl fun w _ => ?_
  split <;> simp

/-- The cumulative sum along the columns. -/
theorem cumsum_cols (x : FVec Ideal S32x3x513x513 .f32) (init : FVec Ideal S_ .f32)
    (hv : init (Shape.Idx.first h_S_) = (0 : EReal)) (b : Fin 32) (c : Fin 3) (f : ℕ → ℕ → ℝ)
    (hx : ∀ r s : Fin 513, x (ix4 b c r s) = ((f r s : ℝ) : EReal)) (r s : Fin 513) :
    Host.reduceWindowAdd ![1, 1, 1, 513] ![1, 1, 1, 1] ![0, 0, 0, 512] ![0, 0, 0, 0] x init
      reduceWindows_S32x3x513x513_S32x3x513x513_w1s1p0_0_w1s1p0_0_w1s1p0_0_w513s1p512_0 h_S_ (ix4 b c r s)
      = ((∑ q ∈ Finset.range (s + 1), f r q : ℝ) : EReal) := by
  rw [window_sum _ _ _ _ x init _ _ hv]
  rw [← window_prefix_coe]
  refine (sum_idx4 _).trans ?_
  simp only [Fintype.sum_unique]
  refine Finset.sum_congr rfl fun w _ => ?_
  have hs : (s : ℕ) + w - 512 < 513 := by omega
  split
  · next h =>
    have h3 : 512 ≤ (s : ℕ) * 1 + w := (h 3).1
    rw [if_pos (by omega)]
    refine Eq.trans ?_ (hx r ⟨s + w - 512, hs⟩)
    refine congrArg x (funext fun a => Fin.ext ?_)
    fin_cases a
    · show (b : ℕ) * 1 + 0 - 0 = b; omega
    · show (c : ℕ) * 1 + 0 - 0 = c; omega
    · show (r : ℕ) * 1 + 0 - 0 = r; omega
    · show (s : ℕ) * 1 + w - 512 = s + w - 512; omega
  · next h =>
    refine (if_neg fun h3 => h fun a => ?_).symm
    fin_cases a
    · show 0 ≤ (b : ℕ) * 1 + 0 ∧ (b : ℕ) * 1 + 0 - 0 < 32; omega
    · show 0 ≤ (c : ℕ) * 1 + 0 ∧ (c : ℕ) * 1 + 0 - 0 < 3; omega
    · show 0 ≤ (r : ℕ) * 1 + 0 ∧ (r : ℕ) * 1 + 0 - 0 < 513; omega
    · show 512 ≤ (s : ℕ) * 1 + w ∧ (s : ℕ) * 1 + w - 512 < 513; omega

/-- The cumulative sum along the rows. -/
theorem cumsum_rows (x : FVec Ideal S32x3x513x513 .f32) (init : FVec Ideal S_ .f32)
    (hv : init (Shape.Idx.first h_S_) = (0 : EReal)) (b : Fin 32) (c : Fin 3) (f : ℕ → ℕ → ℝ)
    (hx : ∀ r s : Fin 513, x (ix4 b c r s) = ((f r s : ℝ) : EReal)) (r s : Fin 513) :
    Host.reduceWindowAdd ![1, 1, 513, 1] ![1, 1, 1, 1] ![0, 0, 512, 0] ![0, 0, 0, 0] x init
      reduceWindows_S32x3x513x513_S32x3x513x513_w1s1p0_0_w1s1p0_0_w513s1p512_0_w1s1p0_0 h_S_ (ix4 b c r s)
      = ((∑ q ∈ Finset.range (r + 1), f q s : ℝ) : EReal) := by
  rw [window_sum _ _ _ _ x init _ _ hv]
  rw [← window_prefix_coe (fun q => f q s)]
  refine (sum_idx4 _).trans ?_
  simp only [Fintype.sum_unique]
  refine Finset.sum_congr rfl fun w _ => ?_
  have hr : (r : ℕ) + w - 512 < 513 := by omega
  split
  · next h =>
    have h2 : 512 ≤ (r : ℕ) * 1 + w := (h 2).1
    rw [if_pos (by omega)]
    refine Eq.trans ?_ (hx ⟨r + w - 512, hr⟩ s)
    refine congrArg x (funext fun a => Fin.ext ?_)
    fin_cases a
    · show (b : ℕ) * 1 + 0 - 0 = b; omega
    · show (c : ℕ) * 1 + 0 - 0 = c; omega
    · show (r : ℕ) * 1 + w - 512 = r + w - 512; omega
    · show (s : ℕ) * 1 + 0 - 0 = s; omega
  · next h =>
    refine (if_neg fun h2 => h fun a => ?_).symm
    fin_cases a
    · show 0 ≤ (b : ℕ) * 1 + 0 ∧ (b : ℕ) * 1 + 0 - 0 < 32; omega
    · show 0 ≤ (c : ℕ) * 1 + 0 ∧ (c : ℕ) * 1 + 0 - 0 < 3; omega
    · show 512 ≤ (r : ℕ) * 1 + w ∧ (r : ℕ) * 1 + w - 512 < 513; omega
    · show 0 ≤ (s : ℕ) * 1 + 0 ∧ (s : ℕ) * 1 + 0 - 0 < 513; omega

/-- The pixels with a zero row above and a zero column to the left. -/
def bordered (X : ℕ → ℕ → ℝ) (r s : ℕ) : ℝ := if 1 ≤ r ∧ 1 ≤ s then X (r - 1) (s - 1) else 0

/-- A row of the bordered pixels sums to the row's pixels. -/
theorem bordered_sum (X : ℕ → ℕ → ℝ) (i j : ℕ) :
    ∑ r ∈ Finset.range (i + 1), ∑ s ∈ Finset.range (j + 1), bordered X r s = integral X i j := by
  have h0 : ∑ s ∈ Finset.range (j + 1), bordered X 0 s = 0 := Finset.sum_eq_zero fun s _ => if_neg (by omega)
  rw [integral, Finset.sum_range_succ', h0, add_zero]
  refine Finset.sum_congr rfl fun r _ => ?_
  rw [Finset.sum_range_succ', bordered, if_neg (by omega), add_zero]
  exact Finset.sum_congr rfl fun s _ => if_pos (by omega)

/-- The zero border around the pixels, read at an element. -/
theorem border (x : FVec Ideal S32x3x512x512 .f32) (b : Fin 32) (c : Fin 3) (X : ℕ → ℕ → ℝ)
    (hX : ∀ r s : Fin 512, x (ix4 b c r s) = ((X r s : ℝ) : EReal)) (r s : Fin 513) :
    pad S32x3x513x513 ![0, 0, 1, 1] ![0, 0, 0, 0] ![0, 0, 0, 0] x (sitofp (F := Ideal) .f32 (constantI S_ 32 0#32))
      pads_S32x3x512x512_S32x3x513x513_000_000_100_100 h_S_ (ix4 b c r s) = ((bordered X r s : ℝ) : EReal) := by
  pointwise
  split
  · next h => rw [hX, bordered, if_pos ⟨h.1.1, h.2.1⟩]
  · next h =>
    rw [bordered, if_neg fun h' => h ⟨⟨h'.1, by omega⟩, h'.2, by omega⟩]
    show (((0#32 : BitVec 32).toInt : ℝ) : EReal) = _
    simp

/-- The reference's integral image at its flat index `k`: row `k / 513`, column `k % 513`. -/
theorem integral_image (V0 : Valuation τ sig (Elt Ideal)) (b : Fin 32) (c : Fin 3) (X : ℕ → ℕ → ℝ)
    (hX : ∀ r s : Fin 512, (V0 (Proc.devRef .tc main_arg0) : FVec Ideal S32x3x512x512 .f32) (ix4 b c r s) = ((X r s : ℝ) : EReal))
    (k : Fin 263169) :
    (Cert.ReferenceIdeal.Value.res_main_v18 V0 : FVec Ideal S32x3x263169 .f32) (ix3 b c k) = ((integral X (k / 513) (k % 513) : ℝ) : EReal) := by
  have h0 : (broadcastInDim S_ ![] bcast_S_S_ (constant (F := Ideal) S_ .f32 0x00000000#32)) (Shape.Idx.first h_S_) = (0 : EReal) :=
    Ideal.ofBits_zero_f32
  unfold Cert.ReferenceIdeal.Value.res_main_v18
  clean_types
  pointwise
  rw [← bordered_sum]
  exact cumsum_rows _ _ h0 b c (fun r s => ∑ q ∈ Finset.range (s + 1), bordered X r q)
    (cumsum_cols _ _ h0 b c (bordered X) (border _ b c X hX)) ⟨k / 513, _⟩ ⟨k % 513, _⟩

end Cert.BoxMean

end
-- ==== Proof.Reference.lean ====
/- The reference's result, read at an element: four entries of the integral image at the corners of the element's box,
   added and subtracted, over the box's area. -/
module

public import proofs.«01_k».proof.Proof.Integral
public import Mathlib.Tactic.Positivity

@[expose] public section

set_option maxRecDepth 16384

noncomputable section

namespace Cert.BoxMean

open Idealize.ShloMosaic Idealize.ShloMosaic.TcCoe Idealize.SL.Sem
open Cert.ReferenceIdeal Cert.ReferenceIdeal.Gen
open Cert.ReferenceIdeal.Value (res_main_v9 res_main_v15 res_main_v17 res_main_v18 res_main_v32 res_main_v46)

variable (V0 : Valuation τ sig (Elt Ideal))

/-! ## The printed tables -/

/-- The table of strides. -/
theorem table_stride : ∀ n : Fin 160, lit0 n = BitVec.ofNat 32 (stride n) := by decide +kernel

/-- The table of corners: its first column is the image column. -/
theorem table_col : ∀ n : Fin 160, lit1 ⟨n * 2 + 0, by omega⟩ = BitVec.ofNat 32 (col n) := by decide +kernel

/-- The table of corners: its second column is the image row. -/
theorem table_row : ∀ n : Fin 160, lit1 ⟨n * 2 + 1, by omega⟩ = BitVec.ofNat 32 (row n) := by decide +kernel

/-- The table of areas: the word of 1, 4 or 16. -/
theorem table_area : ∀ n : Fin 160, lit2 n = if (n : ℕ) < 64 then 0x3F800000#32 else if (n : ℕ) < 112 then 0x40800000#32
    else 0x41800000#32 := by decide +kernel

/-- A token's boxes lie inside the image. -/
theorem inside : ∀ n : Fin 160, col n + 16 * stride n ≤ 512 ∧ row n + 16 * stride n ≤ 512 := by decide +kernel

/-- Entry `n` of the table of strides, at the index the reference reads it. -/
theorem stride_at (n : Fin 160) : lit0 (S160.rowMajor (ix1 n)) = BitVec.ofNat 32 (stride n) := by
  rw [← table_stride n]
  exact congrArg lit0 (Fin.ext (Shape.rowMajor_val_one _))

/-- Entry `n` of the table of corners, its first column. -/
theorem col_at (n : Fin 160) : lit1 (S160x2.rowMajor (ix2 n 0)) = BitVec.ofNat 32 (col n) := by
  rw [← table_col n]
  exact congrArg lit1 (Fin.ext (Shape.rowMajor_val_two _))

/-- Entry `n` of the table of corners, its second column. -/
theorem row_at (n : Fin 160) : lit1 (S160x2.rowMajor (ix2 n 1)) = BitVec.ofNat 32 (row n) := by
  rw [← table_row n]
  exact congrArg lit1 (Fin.ext (Shape.rowMajor_val_two _))

/-- Words of numbers add and multiply as the numbers do. -/
theorem word_affine (a b c : ℕ) : IntOp.addi (BitVec.ofNat 32 a) (IntOp.muli (BitVec.ofNat 32 b) (BitVec.ofNat 32 c))
    = BitVec.ofNat 32 (a + b * c) := by
  rw [BitVec.ofNat_add, BitVec.ofNat_mul]; rfl

/-! ## The boxes' corners -/

/-- The column of the upper left corner of an element's box. -/
theorem lower_col (n : Fin 160) (i k : Fin 16) :
    (res_main_v15 V0 : IVec S160x16x16x2 32) (ix4 n i k 0) = BitVec.ofNat 32 (col n + stride n * k) := by
  unfold res_main_v15 res_main_v9
  clean_types
  pointwise
  rw [col_at, stride_at, word_affine]

/-- The row of the upper left corner of an element's box. -/
theorem lower_row (n : Fin 160) (i k : Fin 16) :
    (res_main_v15 V0 : IVec S160x16x16x2 32) (ix4 n i k 1) = BitVec.ofNat 32 (row n + stride n * i) := by
  unfold res_main_v15 res_main_v9
  clean_types
  pointwise
  rw [row_at, stride_at, word_affine]

/-- The lower right corner lies a side further in both directions. -/
theorem upper_of_lower (n : Fin 160) (i k : Fin 16) (a : Fin 2) (x : ℕ)
    (h : (res_main_v15 V0 : IVec S160x16x16x2 32) (ix4 n i k a) = BitVec.ofNat 32 x) :
    (res_main_v17 V0 : IVec S160x16x16x2 32) (ix4 n i k a) = BitVec.ofNat 32 (x + stride n) := by
  unfold res_main_v17 res_main_v9
  clean_types
  pointwise
  rw [h, stride_at, BitVec.ofNat_add]
  rfl

/-- The lower left corner: its column is the upper left one's, -/
theorem v32_col (n : Fin 160) (i k : Fin 16) :
    (res_main_v32 V0 : IVec S160x16x16x2 32) (ix4 n i k 0) = (res_main_v15 V0 : IVec S160x16x16x2 32) (ix4 n i k 0) := by
  unfold res_main_v32
  clean_types
  pointwise

/-- its row the lower right one's. -/
theorem v32_row (n : Fin 160) (i k : Fin 16) :
    (res_main_v32 V0 : IVec S160x16x16x2 32) (ix4 n i k 1) = (res_main_v17 V0 : IVec S160x16x16x2 32) (ix4 n i k 1) := by
  unfold res_main_v32
  clean_types
  pointwise

/-- The upper right corner: its column is the lower right one's, -/
theorem v46_col (n : Fin 160) (i k : Fin 16) :
    (res_main_v46 V0 : IVec S160x16x16x2 32) (ix4 n i k 0) = (res_main_v17 V0 : IVec S160x16x16x2 32) (ix4 n i k 0) := by
  unfold res_main_v46
  clean_types
  pointwise

/-- its row the upper left one's. -/
theorem v46_row (n : Fin 160) (i k : Fin 16) :
    (res_main_v46 V0 : IVec S160x16x16x2 32) (ix4 n i k 1) = (res_main_v15 V0 : IVec S160x16x16x2 32) (ix4 n i k 1) := by
  unfold res_main_v46
  clean_types
  pointwise

/-! ## From a corner to the entry of the integral image -/

/-- The flat index of every corner: its row times 513, plus its column. -/
def flat (v : IVec S160x16x16x2 32) : IVec S40960 32 :=
  shapeCast S40960 (addi (muli (shapeCast S160x16x16 (extractStridedSlice S160x16x16x1 ![0, 0, 0, 1] v
      slices_S160x16x16x2_S160x16x16x1_0_0_0_1) shapeCasts_S160x16x16x1_S160x16x16)
      (broadcastInDim S160x16x16 ![] bcast_S_S160x16x16 (constantI S_ 32 513#32)))
    (shapeCast S160x16x16 (extractStridedSlice S160x16x16x1 ![0, 0, 0, 0] v slices_S160x16x16x2_S160x16x16x1_0_0_0_0)
      shapeCasts_S160x16x16x1_S160x16x16)) shapeCasts_S160x16x16_S40960

/-- Negative flat indices counted from the end, as a column of start indices. -/
def starts (f : IVec S40960 32) : IVec S40960x1 32 :=
  broadcastInDim S40960x1 ![0] bcast_S40960_S40960x1_0 (select (cmpi .slt f (broadcastInDim S40960 ![] bcast_S_S40960
    (constantI S_ 32 0#32))) (addi f (broadcastInDim S40960 ![] bcast_S_S40960 (constantI S_ 32 263169#32))) f)

/-- The entries at the start indices, brought into the result's layout; an index out of range would give NaN. -/
def taken (x : FVec Ideal S32x3x263169 .f32) (idx : IVec S40960x1 32) : FVec Ideal S32x160x3x16x16 .f32 :=
  transpose S32x160x3x16x16 [0, 2, 1, 3, 4] (shapeCast S32x3x160x16x16 (select (broadcastInDim S32x3x40960 ![2]
      bcast_S40960_S32x3x40960_2 (Host.reduce IntOp.andi (andi (cmpi .sge idx (broadcastInDim S40960x1 ![] bcast_S_S40960x1
        (constantI S_ 32 0#32))) (cmpi .sle idx (broadcastInDim S40960x1 ![0, 1] bcast_S1x1_S40960x1_0_1
        (broadcastInDim S1x1 ![1] bcast_S1_S1x1_1 (constantI S1 32 263168#32))))) (constantI S_ 1 1#1)
        reducesTo_S40960x1_S40960_d1 h_S_))
      (Host.gather gather_S32x3x263169_S40960x1_S32x3x40960_01_2_n_n_2_1_3231 x idx)
      (broadcastInDim S32x3x40960 ![] bcast_S_S32x3x40960 (constant S_ .f32 0x7FC00000#32)))
    shapeCasts_S32x3x40960_S32x3x160x16x16) transposes_S32x3x160x16x16_S32x160x3x16x16_0_2_1_3_4

/-- A corner's flat index, from its column and its row. -/
theorem flat_apply (v : IVec S160x16x16x2 32) (n : Fin 160) (i k : Fin 16) (x y : ℕ)
    (hx : v (ix4 n i k 0) = BitVec.ofNat 32 x) (hy : v (ix4 n i k 1) = BitVec.ofNat 32 y) :
    flat v (ix1 ⟨n * 256 + i * 16 + k, by omega⟩) = BitVec.ofNat 32 (y * 513 + x) := by
  pointwise [flat]
  rw [hx, hy, BitVec.ofNat_add, BitVec.ofNat_mul]
  rfl

/-- The word of an index in range, read as a signed number. -/
theorem toInt_word {q : ℕ} (hq : q < 263169) : (BitVec.ofNat 32 q).toInt = q := by
  have e : (BitVec.ofNat 32 q).toNat = q := by
    rw [BitVec.toNat_ofNat]; exact Nat.mod_eq_of_lt (by omega)
  rw [BitVec.toInt_eq_toNat_of_lt (by rw [e]; omega), e]

/-- It is not negative. -/
theorem word_not_neg {q : ℕ} (hq : q < 263169) : IntOp.cmpi .slt (BitVec.ofNat 32 q) 0#32 = 0#1 := by
  have e : (BitVec.ofNat 32 q).slt 0#32 = false := by
    rw [BitVec.slt, toInt_word hq]; simp
  show BitVec.ofBool ((BitVec.ofNat 32 q).slt 0#32) = 0#1
  rw [e]; rfl

/-- It passes the check from below. -/
theorem word_ge {q : ℕ} (hq : q < 263169) : IntOp.cmpi .sge (BitVec.ofNat 32 q) 0#32 = 1#1 := by
  have e : (0#32 : BitVec 32).sle (BitVec.ofNat 32 q) = true := by
    rw [BitVec.sle, toInt_word hq]; simp
  show BitVec.ofBool ((0#32 : BitVec 32).sle (BitVec.ofNat 32 q)) = 1#1
  rw [e]; rfl

/-- It passes the check from above. -/
theorem word_le {q : ℕ} (hq : q < 263169) : IntOp.cmpi .sle (BitVec.ofNat 32 q) 263168#32 = 1#1 := by
  have e : (BitVec.ofNat 32 q).sle 263168#32 = true := by
    rw [BitVec.sle, toInt_word hq, toInt_word (by omega : 263168 < 263169)]; simp; omega
  show BitVec.ofBool ((BitVec.ofNat 32 q).sle 263168#32) = 1#1
  rw [e]; rfl

/-- A start index in range is the flat index. -/
theorem starts_apply (f : IVec S40960 32) (p : Fin 40960) (q : ℕ) (hq : q < 263169) (h : f (ix1 p) = BitVec.ofNat 32 q) :
    starts f (ix2 p 0) = BitVec.ofNat 32 q := by
  pointwise [starts]
  rw [h, word_not_neg hq]
  rfl

/-- The gather along the last axis, read at an element whose start index is in range. -/
theorem gather_apply (x : FVec Ideal S32x3x263169 .f32) (idx : IVec S40960x1 32) (b : Fin 32) (c : Fin 3) (p : Fin 40960)
    (q : Fin 263169) (h : idx (ix2 p 0) = BitVec.ofNat 32 q) :
    Host.gather gather_S32x3x263169_S40960x1_S32x3x40960_01_2_n_n_2_1_3231 x idx (ix3 b c p) = x (ix3 b c q) := by
  let d := gather_S32x3x263169_S40960x1_S32x3x40960_01_2_n_n_2_1_3231
  have hoff : ∀ a, d.batchCoord (ix3 b c p) a = 0 := fun a => d.batchCoord_eq_zero _ _ List.not_mem_nil
  refine congrArg x (funext fun a => Fin.ext ?_)
  show d.start (ix3 b c p) idx a + d.batchCoord (ix3 b c p) a + d.offCoord (ix3 b c p) a = _
  rw [hoff a, add_zero]
  fin_cases a
  · have h1 : d.start (ix3 b c p) idx 0 = 0 := dif_neg (show (0 : Fin 3) ∉ [2] by decide)
    have h2 : d.offCoord (ix3 b c p) 0 = b := rfl
    show d.start (ix3 b c p) idx 0 + d.offCoord (ix3 b c p) 0 = b
    rw [h1, h2, zero_add]
  · have h1 : d.start (ix3 b c p) idx 1 = 0 := dif_neg (show (1 : Fin 3) ∉ [2] by decide)
    have h2 : d.offCoord (ix3 b c p) 1 = c := rfl
    show d.start (ix3 b c p) idx 1 + d.offCoord (ix3 b c p) 1 = c
    rw [h1, h2, zero_add]
  · have h1 : d.start (ix3 b c p) idx 2 = q := by
      have hm : (2 : Fin 3) ∈ d.startIndexMap := List.mem_singleton.2 rfl
      have hi : d.siIdx (ix3 b c p) ⟨d.startIndexMap.idxOf 2, List.idxOf_lt_length_iff.2 hm⟩ = ix2 p 0 := by
        funext a
        fin_cases a <;> rfl
      unfold GatherDims.start
      rw [dif_pos hm, hi, h, toInt_word q.isLt]
      show min (Int.toNat q) (263169 - 1) = q
      rw [Int.toNat_natCast]
      omega
    have h2 : d.offCoord (ix3 b c p) 2 = 0 :=
      d.offCoord_eq_zero _ _ fun h => ((d.mem_sKept _).1 h).1 (List.mem_singleton.2 rfl)
    show d.start (ix3 b c p) idx 2 + d.offCoord (ix3 b c p) 2 = q
    rw [h1, h2, add_zero]

/-- The entry taken for an element is the one at its start index, where that is in range. -/
theorem taken_apply (x : FVec Ideal S32x3x263169 .f32) (idx : IVec S40960x1 32) (b : Fin 32) (n : Fin 160) (c : Fin 3)
    (i k : Fin 16) (q : Fin 263169)
    (h : idx (ix2 ⟨n * 256 + i * 16 + k, by omega⟩ 0) = BitVec.ofNat 32 q) :
    taken x idx (ix5 b n c i k) = x (ix3 b c q) := by
  pointwise [taken]
  rw [Finset.univ_unique, Finset.fold_singleton, gather_apply x idx b c _ q h]
  rw [show (default : Fin 1) = 0 from rfl, h, word_ge q.isLt, word_le q.isLt]
  rfl

/-- The entry of the integral image at a corner of an element's box. -/
theorem corner_apply (v : IVec S160x16x16x2 32) (b : Fin 32) (n : Fin 160) (c : Fin 3) (i k : Fin 16) (X : ℕ → ℕ → ℝ)
    (hX : ∀ r s : Fin 512, (V0 (Proc.devRef .tc main_arg0) : FVec Ideal S32x3x512x512 .f32) (ix4 b c r s) = ((X r s : ℝ) : EReal))
    (x y : ℕ) (hx : v (ix4 n i k 0) = BitVec.ofNat 32 x) (hy : v (ix4 n i k 1) = BitVec.ofNat 32 y)
    (bx : x ≤ 512) (hby : y ≤ 512) :
    taken (res_main_v18 V0) (starts (flat v)) (ix5 b n c i k) = ((integral X y x : ℝ) : EReal) := by
  have hq : y * 513 + x < 263169 := by omega
  refine (taken_apply _ _ b n c i k ⟨y * 513 + x, hq⟩ (starts_apply _ _ _ hq (flat_apply v n i k x y hx hy))).trans ?_
  refine (integral_image V0 b c X hX ⟨y * 513 + x, hq⟩).trans ?_
  dsimp only
  rw [show (y * 513 + x) / 513 = y by omega, show (y * 513 + x) % 513 = x by omega]

/-- The areas of the boxes, one per token. -/
def areas : FVec Ideal S32x160x3x16x16 .f32 :=
  broadcastInDim S32x160x3x16x16 ![0, 1, 2, 3, 4] bcast_S1x160x1x1x1_S32x160x3x16x16_0_1_2_3_4
    (shapeCast S1x160x1x1x1 (fun i => FloatOps.ofBits .f32 (lit2 (S160.rowMajor i))) shapeCasts_S160_S1x160x1x1x1)

/-- The reference's result as the four corners' entries. -/
def result : FVec Ideal S32x160x3x16x16 .f32 :=
  Host.divf (subf (subf (addf (taken (res_main_v18 V0) (starts (flat (res_main_v15 V0))))
      (taken (res_main_v18 V0) (starts (flat (res_main_v17 V0)))))
      (taken (res_main_v18 V0) (starts (flat (res_main_v32 V0)))))
      (taken (res_main_v18 V0) (starts (flat (res_main_v46 V0))))) areas

/-- The word of four. -/
theorem ofBits_four : Ideal.ofBits .f32 0x40800000#32 = ((4 : ℝ) : EReal) := by
  simp [Ideal.ofBits, Ideal.ieee, -EReal.coe_mul]; norm_num

/-- The word of sixteen. -/
theorem ofBits_sixteen : Ideal.ofBits .f32 0x41800000#32 = ((16 : ℝ) : EReal) := by
  simp [Ideal.ofBits, Ideal.ieee, -EReal.coe_mul]; norm_num

/-- The area is the square of the token's stride. -/
theorem areas_apply (b : Fin 32) (n : Fin 160) (c : Fin 3) (i k : Fin 16) :
    areas (ix5 b n c i k) = (((stride n : ℝ) ^ 2 : ℝ) : EReal) := by
  have e : lit2 (S160.rowMajor (ix1 n)) = lit2 n := congrArg lit2 (Fin.ext (Shape.rowMajor_val_one _))
  pointwise [areas]
  rw [e, table_area n, stride]
  split_ifs
  · rw [Ideal.ofBits_one_f32]; norm_num
  · rw [ofBits_four]; norm_num
  · rw [ofBits_sixteen]; norm_num

/-- A quotient of real numbers, the divisor not zero. -/
theorem div_coe (a : ℝ) {w : ℝ} (hw : w ≠ 0) : Ideal.div ((a : ℝ) : EReal) ((w : ℝ) : EReal) = ((a / w : ℝ) : EReal) := by
  rw [Ideal.div, if_neg (by simpa using hw), div_eq_mul_inv, EReal.coe_mul, EReal.coe_inv]

/-- The reference's result at an element: the mean of its box. -/
theorem result_apply (b : Fin 32) (n : Fin 160) (c : Fin 3) (i k : Fin 16) (X : ℕ → ℕ → ℝ)
    (hX : ∀ r s : Fin 512, (V0 (Proc.devRef .tc main_arg0) : FVec Ideal S32x3x512x512 .f32) (ix4 b c r s) = ((X r s : ℝ) : EReal)) :
    result V0 (ix5 b n c i k) = ((mean X n i k : ℝ) : EReal) := by
  have hw : 1 ≤ stride n := by unfold stride; split_ifs <;> omega
  have hin := inside n
  have hk : stride n * k + stride n ≤ 16 * stride n := by
    have := Nat.mul_le_mul_left (stride n) (show (k : ℕ) + 1 ≤ 16 by omega); linarith
  have hi : stride n * i + stride n ≤ 16 * stride n := by
    have := Nat.mul_le_mul_left (stride n) (show (i : ℕ) + 1 ≤ 16 by omega); linarith
  have lx := lower_col V0 n i k
  have ly := lower_row V0 n i k
  have ux := upper_of_lower V0 n i k 0 _ lx
  have uy := upper_of_lower V0 n i k 1 _ ly
  have e1 := corner_apply V0 (res_main_v15 V0) b n c i k X hX _ _ lx ly (by omega) (by omega)
  have e2 := corner_apply V0 (res_main_v17 V0) b n c i k X hX _ _ ux uy (by omega) (by omega)
  have e3 := corner_apply V0 (res_main_v32 V0) b n c i k X hX _ _ ((v32_col V0 n i k).trans lx)
    ((v32_row V0 n i k).trans uy) (by omega) (by omega)
  have e4 := corner_apply V0 (res_main_v46 V0) b n c i k X hX _ _ ((v46_col V0 n i k).trans ux)
    ((v46_row V0 n i k).trans ly) (by omega) (by omega)
  have hs : ((stride n : ℝ) ^ 2) ≠ 0 := by positivity
  show Ideal.div (taken (res_main_v18 V0) (starts (flat (res_main_v15 V0))) (ix5 b n c i k)
    + taken (res_main_v18 V0) (starts (flat (res_main_v17 V0))) (ix5 b n c i k)
    - taken (res_main_v18 V0) (starts (flat (res_main_v32 V0))) (ix5 b n c i k)
    - taken (res_main_v18 V0) (starts (flat (res_main_v46 V0))) (ix5 b n c i k)) (areas (ix5 b n c i k)) = _
  rw [e1, e2, e3, e4, areas_apply, ← EReal.coe_add, ← EReal.coe_sub, ← EReal.coe_sub, div_coe _ hs, corners, mean]

end Cert.BoxMean

end
-- ==== Proof.Equal.lean ====
/- Both programs' runs end in the array of box means of the argument. -/
module

public import proofs.«01_k».proof.Proof.KernelValue
public import proofs.«01_k».proof.Proof.Reference
public import Idealize.ShloMosaic.Lib.Quiescent

@[expose] public section

set_option maxRecDepth 16384

noncomputable section

namespace Cert.BoxMean

open Idealize.ShloMosaic Idealize.ShloMosaic.TcCoe Idealize.SL.Sem

section Kernel

open Cert.KernelIdeal

variable (m : (ℓ : Loc nD τ sig) → Buf (Elt Ideal) ℓ) (ρ : Dev nD → PrngReg)

/-- The kernel's run: on finite pixels its result is the array of their box means, and the pixels are unchanged. -/
theorem kernel_run (hx : ∀ (c : Dev nD) (j : S32x3x512x512.Idx),
      (((m ((c : Thread nD τ).loc main_arg0) j : EReal).toReal : ℝ) : EReal) = m ((c : Thread nD τ).loc main_arg0) j) :
    θ_run defs (onTc (τ := τ) (main (F := Ideal))) ⟨m, fun _ => 0, ρ⟩ fun r => ∀ c : Dev nD,
      r.2.mem ((c : Thread nD τ).loc main_v0) = means (m ((c : Thread nD τ).loc main_arg0))
      ∧ r.2.mem ((c : Thread nD τ).loc main_arg0) = m ((c : Thread nD τ).loc main_arg0) :=
  (θ_run defs _ _).mono (fun _ h c => ⟨(h c).1.trans (final m c (hx c)), (h c).2⟩) (Cert.KernelIdeal.Value.run_blocks m ρ)

end Kernel

section Reference

open Cert.ReferenceIdeal Cert.ReferenceIdeal.Value Idealize.ShloMosaic.StableHlo

variable (m : (ℓ : Loc nD τ sig) → Buf (Elt Ideal) ℓ) (ρ : Dev nD → PrngReg)

/-- The start indices of the upper left corners. -/
theorem starts3 (V0 : Valuation τ sig (Elt Ideal)) : res_main_call3_v5 V0 = starts (flat (res_main_v15 V0)) := rfl

/-- The start indices of the lower right corners. -/
theorem starts4 (V0 : Valuation τ sig (Elt Ideal)) : res_main_call4_v5 V0 = starts (flat (res_main_v17 V0)) := rfl

/-- The start indices of the lower left corners. -/
theorem starts5 (V0 : Valuation τ sig (Elt Ideal)) : res_main_call5_v5 V0 = starts (flat (res_main_v32 V0)) := rfl

/-- The start indices of the upper right corners. -/
theorem starts6 (V0 : Valuation τ sig (Elt Ideal)) : res_main_call6_v5 V0 = starts (flat (res_main_v46 V0)) := rfl

/-- The reference's result array is the array of box means. -/
theorem result_means (V0 : Valuation τ sig (Elt Ideal)) (x : FVec Ideal S32x3x512x512 .f32)
    (hx : ∀ j, (((x j : EReal).toReal : ℝ) : EReal) = x j) (h : V0 (Proc.devRef .tc main_arg0) = x) :
    result V0 = means x := by
  funext j
  refine (congrArg (result V0) (ix5_eta j).symm).trans ?_
  exact result_apply V0 (j 0) (j 1) (j 2) (j 3) (j 4) (pix x (j 0) (j 2)) fun r s =>
    (congrFun h _).trans (pix_eq hx _ _ r s).symm

/-- The reference's run: on finite pixels its result is the array of their box means, and the pixels are unchanged. -/
theorem reference_run (x : Dev nD → FVec Ideal S32x3x512x512 .f32) (hm : ∀ c : Dev nD, m ((c : Thread nD τ).loc main_arg0) = x c)
    (hx : ∀ c j, (((x c j : EReal).toReal : ℝ) : EReal) = x c j) :
    θ_run defs (onTc (τ := τ) (main (F := Ideal))) ⟨m, fun _ => 0, ρ⟩ fun r => ∀ c : Dev nD,
      r.2.mem ((c : Thread nD τ).loc main_v82) = means (x c)
      ∧ r.2.mem ((c : Thread nD τ).loc main_arg0) = m ((c : Thread nD τ).loc main_arg0) :=
  (θ_run defs _ _).mono (fun _ h c => ⟨(h c).1.trans (by
      rw [starts3, starts4, starts5, starts6]
      exact result_means (launchContents m c) (x c) (hx c) (hm c)), (h c).2⟩)
    (Cert.ReferenceIdeal.Value.run m ρ)

/-- The reference's frame: it runs, its argument ends unchanged, and no semaphore is left above zero. -/
theorem reference_frame :
    θ_run defs (onTc (τ := τ) (main (F := Ideal))) ⟨m, fun _ => 0, ρ⟩ fun r =>
      (∀ c : Dev nD, r.2.mem ((c : Thread nD τ).loc main_arg0) = m ((c : Thread nD τ).loc main_arg0)) ∧ r.2.sem = fun _ => 0 :=
  (θ_run defs _ _).mono (fun r h => ⟨fun c => (h c).2, sem_eq_zero_of_no_sems (by decide) r.2⟩) (Cert.ReferenceIdeal.Value.run m ρ)

end Reference

end Cert.BoxMean

end
-- ==== Proof.lean ====
/- The certificate: the kernel, its idealization and the reference run, leave their arguments unchanged and every semaphore
   at zero; and on finite pixels the idealized kernel and the reference end with equal results. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem

/-- On finite pixels the idealized kernel and the reference end with the same array, the means of the pixels' boxes. -/
theorem equal : Cert.algebraic_KernelIdeal_ReferenceIdeal_pre_finite := fun m g m' g' hfin hagree =>
  have hx := fun c => Cert.BoxMean.real_of_finite _ (hfin c)
  ⟨fun c => Cert.BoxMean.means (m ((c.tc : Thread Cert.KernelIdeal.nD Cert.KernelIdeal.τ).loc Cert.KernelIdeal.main_arg0)),
    Cert.BoxMean.kernel_run m g hx, Cert.BoxMean.reference_run m' g' _ hagree hx⟩

/-- The whole claim. -/
theorem claim : Cert.Claim :=
  ⟨Cert.Kernel.Gen.facts, Cert.KernelIdeal.Gen.facts, Cert.ReferenceIdeal.Gen.facts, Cert.BoxMean.finiteFacts,
    fun m g _ => Cert.Kernel.Gen.frame m g, fun m g _ => Cert.KernelIdeal.Gen.frame m g,
    fun m g _ => Cert.KernelIdeal.Gen.frame m g, fun m g _ => Cert.BoxMean.reference_frame m g,
    fun m g _ => Cert.BoxMean.reference_frame m g, trivial, equal⟩

end Cert.Proof

end
